-- ==== Defs.lean ====
def Pre_Kernel [hPre_perm_in_range : Cert.Pre_perm_in_range.Facts] (m : (ℓ : Loc Cert.Kernel.nD Cert.Kernel.τ Cert.Kernel.sig) → Buf (Elt Bits) ℓ) : Prop :=
  ∀ c : Dev Cert.Kernel.nD,
    (Cert.Pre_perm_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_perm_in_range : Cert.Pre_perm_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_perm_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_perm_in_range : Cert.Pre_perm_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_perm_in_range : Cert.Pre_perm_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_perm_in_range : Cert.Pre_perm_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_perm_in_range : Cert.Pre_perm_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_perm_in_range : Cert.Pre_perm_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_perm_in_range : Cert.Pre_perm_in_range.Facts),
    quiescent_Kernel (hKernel := hKernel) (hPre_perm_in_range := hPre_perm_in_range)
    ∧ quiescent_KernelIdeal (hKernelIdeal := hKernelIdeal) (hPre_perm_in_range := hPre_perm_in_range)
    ∧ quiescent_ReferenceIdeal (hReferenceIdeal := hReferenceIdeal) (hPre_perm_in_range := hPre_perm_in_range)
    ∧ preserves_Kernel_KernelIdeal
    ∧ algebraic_KernelIdeal_ReferenceIdeal (hKernelIdeal := hKernelIdeal) (hReferenceIdeal := hReferenceIdeal) (hPre_perm_in_range := hPre_perm_in_range)
-- ==== Pre_perm_in_range.lean ====
abbrev S4x4096x2048 : Shape := ⟨3, ![4, 4096, 2048]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S4x4096x2048 .f32) (main_arg1 : IVec S2048 32) : IVec S_ 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 2048#32
  let main_v2 : IVec S2048 32 := broadcastInDim S2048 ![] bcast_S_S2048 main_c_0
  let main_v3 : IVec S2048 1 := cmpi .slt main_arg1 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Kernel.lean ====
abbrev S4x4096x2048 : Shape := ⟨3, ![4, 4096, 2048]⟩
abbrev S2048 : Shape := ⟨1, ![2048]⟩
abbrev S33554432 : Shape := ⟨1, ![33554432]⟩
abbrev S16384 : Shape := ⟨1, ![16384]⟩
abbrev S_ : Shape := ⟨0, ![]⟩
abbrev S16 : Shape := ⟨1, ![16]⟩

abbrev nBuf : Table → Nat
  | .hbm => 5
  | .local .scVector .vmem => 3
  | _ => 0

abbrev bufTy : (tb : Table) → Fin (nBuf tb) → BufTy
  | .hbm, ⟨0, _⟩ => ⟨S4x4096x2048, .f32⟩
  | .hbm, ⟨1, _⟩ => ⟨S2048, .i32⟩
  | .hbm, ⟨2, _⟩ => ⟨S33554432, .f32⟩
  | .hbm, ⟨3, _⟩ => ⟨S33554432, .f32⟩
  | .hbm, ⟨4, _⟩ => ⟨S4x4096x2048, .f32⟩
  | .local .scVector .vmem, ⟨0, _⟩ => ⟨S2048, .i32⟩
  | .local .scVector .vmem, ⟨1, _⟩ => ⟨S16384, .f32⟩
  | .local .scVector .vmem, ⟨2, _⟩ => ⟨S16384, .f32⟩
  | _, _ => ⟨S4x4096x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c64_i32 : BitVec 32 := 64#32
  let v3 : BitVec 32 := Scalar.addi c0_i32_0 c64_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1048576_i32 : BitVec 32 := 1048576#32
  let v2 : BitVec 32 := Scalar.muli v1 c1048576_i32
  let c0_i32_0 : BitVec 32 := 0#32
  let c1_i32 : BitVec 32 := 1#32
  let arg8 : BitVec 32 := Scf.iv c0_i32_0 c1_i32 k0_t1
  let c16384_i32 : BitVec 32 := 16384#32
  let v4 : BitVec 32 := Scalar.muli arg8 c16384_i32
  let v5 : BitVec 32 := Scalar.addi v2 v4
  ![v5.toNat]
@[reducible] def k0_t2_loop : Scf.Loop 32 :=
  let c0_i32_3 : BitVec 32 := 0#32
  let c128_i32 : BitVec 32 := 128#32
  let v6 : BitVec 32 := Scalar.addi c0_i32_3 c128_i32
  let c1_i32_4 : BitVec 32 := 1#32
  ⟨c0_i32_3, v6, c1_i32_4⟩
def k0_off2 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c16_i32 : BitVec 32 := 16#32
  let v7 : BitVec 32 := Scalar.muli arg9 c16_i32
  let v8 : Index := Scalar.indexCast v7
  ![v8.toNat]

def k0_chk1 (v11 : IVec S16 32) : Prop :=
  (∀ a x, ((![v11] : Fin 1 → IVec S16 32) a x).toNat < S16384.size a)
theorem k0_idx1_inb : ∀ (v11 : IVec S16 32) (k0_hw1 : k0_chk1 v11), ∀ a x, ((![v11] : Fin 1 → IVec S16 32) a x).toNat < S16384.size a := fun v11 k0_hw1 => k0_hw1
def k0_off3 (k0_t2 : Fin k0_t2_loop.trips) : Fin 1 → Nat :=
  let c0_i32_8 : BitVec 32 := 0#32
  let c0_i32_3 : BitVec 32 := 0#32
  let c1_i32_4 : BitVec 32 := 1#32
  let arg9 : BitVec 32 := Scf.iv c0_i32_3 c1_i32_4 k0_t2
  let c16_i32_7 : BitVec 32 := 16#32
  let v13 : BitVec 32 := Scalar.muli arg9 c16_i32_7
  let v14 : BitVec 32 := Scalar.addi c0_i32_8 v13
  let v15 : Index := Scalar.indexCast v14
  ![v15.toNat]

def k0_chk2 (v18 : IVec S16 32) : Prop :=
  (∀ a x, ((![v18] : Fin 1 → IVec S16 32) a x).toNat < S16384.size a)
theorem k0_idx2_inb : ∀ (v18 : IVec S16 32) (k0_hw2 : k0_chk2 v18), ∀ a x, ((![v18] : Fin 1 → IVec S16 32) a x).toNat < S16384.size a := fun v18 k0_hw2 => k0_hw2
def k0_off4 (k0_t2 : Fin k0_t2_loop.trips) : Fin 1 → Nat :=
  let c2048_i32_10 : BitVec 32 := 2048#32
  let c0_i32_3 : BitVec 32 := 0#32
  let c1_i32_4 : BitVec 32 := 1#32
  let arg9 : BitVec 32 := Scf.iv c0_i32_3 c1_i32_4 k0_t2
  let c16_i32_9 : BitVec 32 := 16#32
  let v20 : BitVec 32 := Scalar.muli arg9 c16_i32_9
  let v21 : BitVec 32 := Scalar.addi c2048_i32_10 v20
  let v22 : Index := Scalar.indexCast v21
  ![v22.toNat]

def k0_chk3 (v25 : IVec S16 32) : Prop :=
  (∀ a x, ((![v25] : Fin 1 → IVec S16 32) a x).toNat < S16384.size a)
theorem k0_idx3_inb : ∀ (v25 : IVec S16 32) (k0_hw3 : k0_chk3 v25), ∀ a x, ((![v25] : Fin 1 → IVec S16 32) a x).toNat < S16384.size a := fun v25 k0_hw3 => k0_hw3
def k0_off5 (k0_t2 : Fin k0_t2_loop.trips) : Fin 1 → Nat :=
  let c4096_i32_12 : BitVec 32 := 4096#32
  let c0_i32_3 : BitVec 32 := 0#32
  let c1_i32_4 : BitVec 32 := 1#32
  let arg9 : BitVec 32 := Scf.iv c0_i32_3 c1_i32_4 k0_t2
  let c16_i32_11 : BitVec 32 := 16#32
  let v27 : BitVec 32 := Scalar.muli arg9 c16_i32_11
  let v28 : BitVec 32 := Scalar.addi c4096_i32_12 v27
  let v29 : Index := Scalar.indexCast v28
  ![v29.toNat]

def k0_chk4 (v32 : IVec S16 32) : Prop :=
  (∀ a x, ((![v32] : Fin 1 → IVec S16 32) a x).toNat < S16384.size a)
theorem k0_idx4_inb : ∀ (v32 : IVec S16 32) (k0_hw4 : k0_chk4 v32), ∀ a x, ((![v32] : Fin 1 → IVec S16 32) a x).toNat < S16384.size a := fun v32 k0_hw4 => k0_hw4
def k0_off6 (k0_t2 : Fin k0_t2_loop.trips) : Fin 1 → Nat :=
  let c6144_i32_14 : BitVec 32 := 6144#32
  let c0_i32_3 : BitVec 32 := 0#32
  let c1_i32_4 : BitVec 32 := 1#32
  let arg9 : BitVec 32 := Scf.iv c0_i32_3 c1_i32_4 k0_t2
  let c16_i32_13 : BitVec 32 := 16#32
  let v34 : BitVec 32 := Scalar.muli arg9 c16_i32_13
  let v35 : BitVec 32 := Scalar.addi c6144_i32_14 v34
  let v36 : Index := Scalar.indexCast v35
  ![v36.toNat]

def k0_chk5 (v39 : IVec S16 32) : Prop :=
  (∀ a x, ((![v39] : Fin 1 → IVec S16 32) a x).toNat < S16384.size a)
theorem k0_idx5_inb : ∀ (v39 : IVec S16 32) (k0_hw5 : k0_chk5 v39), ∀ a x, ((![v39] : Fin 1 → IVec S16 32) a x).toNat < S16384.size a := fun v39 k0_hw5 => k0_hw5
def k0_off7 (k0_t2 : Fin k0_t2_loop.trips) : Fin 1 → Nat :=
  let c8192_i32_16 : BitVec 32 := 8192#32
  let c0_i32_3 : BitVec 32 := 0#32
  let c1_i32_4 : BitVec 32 := 1#32
  let arg9 : BitVec 32 := Scf.iv c0_i32_3 c1_i32_4 k0_t2
  let c16_i32_15 : BitVec 32 := 16#32
  let v41 : BitVec 32 := Scalar.muli arg9 c16_i32_15
  let v42 : BitVec 32 := Scalar.addi c8192_i32_16 v41
  let v43 : Index := Scalar.indexCast v42
  ![v43.toNat]

def k0_chk6 (v46 : IVec S16 32) : Prop :=
  (∀ a x, ((![v46] : Fin 1 → IVec S16 32) a x).toNat < S16384.size a)
theorem k0_idx6_inb : ∀ (v46 : IVec S16 32) (k0_hw6 : k0_chk6 v46), ∀ a x, ((![v46] : Fin 1 → IVec S16 32) a x).toNat < S16384.size a := fun v46 k0_hw6 => k0_hw6
def k0_off8 (k0_t2 : Fin k0_t2_loop.trips) : Fin 1 → Nat :=
  let c10240_i32_18 : BitVec 32 := 10240#32
  let c0_i32_3 : BitVec 32 := 0#32
  let c1_i32_4 : BitVec 32 := 1#32
  let arg9 : BitVec 32 := Scf.iv c0_i32_3 c1_i32_4 k0_t2
  let c16_i32_17 : BitVec 32 := 16#32
  let v48 : BitVec 32 := Scalar.muli arg9 c16_i32_17
  let v49 : BitVec 32 := Scalar.addi c10240_i32_18 v48
  let v50 : Index := Scalar.indexCast v49
  ![v50.toNat]

def k0_chk7 (v53 : IVec S16 32) : Prop :=
  (∀ a x, ((![v53] : Fin 1 → IVec S16 32) a x).toNat < S16384.size a)
theorem k0_idx7_inb : ∀ (v53 : IVec S16 32) (k0_hw7 : k0_chk7 v53), ∀ a x, ((![v53] : Fin 1 → IVec S16 32) a x).toNat < S16384.size a := fun v53 k0_hw7 => k0_hw7
def k0_off9 (k0_t2 : Fin k0_t2_loop.trips) : Fin 1 → Nat :=
  let c12288_i32_20 : BitVec 32 := 12288#32
  let c0_i32_3 : BitVec 32 := 0#32
  let c1_i32_4 : BitVec 32 := 1#32
  let arg9 : BitVec 32 := Scf.iv c0_i32_3 c1_i32_4 k0_t2
  let c16_i32_19 : BitVec 32 := 16#32
  let v55 : BitVec 32 := Scalar.muli arg9 c16_i32_19
  let v56 : BitVec 32 := Scalar.addi c12288_i32_20 v55
  let v57 : Index := Scalar.indexCast v56
  ![v57.toNat]

def k0_chk8 (v60 : IVec S16 32) : Prop :=
  (∀ a x, ((![v60] : Fin 1 → IVec S16 32) a x).toNat < S16384.size a)
theorem k0_idx8_inb : ∀ (v60 : IVec S16 32) (k0_hw8 : k0_chk8 v60), ∀ a x, ((![v60] : Fin 1 → IVec S16 32) a x).toNat < S16384.size a := fun v60 k0_hw8 => k0_hw8
def k0_off10 (k0_t2 : Fin k0_t2_loop.trips) : Fin 1 → Nat :=
  let c14336_i32_22 : BitVec 32 := 14336#32
  let c0_i32_3 : BitVec 32 := 0#32
  let c1_i32_4 : BitVec 32 := 1#32
  let arg9 : BitVec 32 := Scf.iv c0_i32_3 c1_i32_4 k0_t2
  let c16_i32_21 : BitVec 32 := 16#32
  let v62 : BitVec 32 := Scalar.muli arg9 c16_i32_21
  let v63 : BitVec 32 := Scalar.addi c14336_i32_22 v62
  let v64 : Index := Scalar.indexCast v63
  ![v64.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x2048 : Shape := ⟨3, ![4, 4096, 2048]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .i32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S1, .i32⟩
  | .hbm, ⟨11, _⟩ => ⟨S_, .i32⟩
  | .hbm, ⟨12, _⟩ => ⟨S2048x1, .i32⟩
  | .hbm, ⟨13, _⟩ => ⟨S2048x1, .i1⟩
  | .hbm, ⟨14, _⟩ => ⟨S1x1, .i32⟩
  | .hbm, ⟨15, _⟩ => ⟨S2048x1, .i32⟩
  | .hbm, ⟨16, _⟩ => ⟨S2048x1, .i1⟩
  | .hbm, ⟨17, _⟩ => ⟨S2048x1, .i1⟩
  | .hbm, ⟨18, _⟩ => ⟨S_, .i1⟩
  | .hbm, ⟨19, _⟩ => ⟨S2048, .i1⟩
  | .hbm, ⟨20, _⟩ => ⟨S4x4096x2048, .f32⟩
  | .hbm, ⟨21, _⟩ => ⟨S4x4096x2048, .i1⟩
  | .hbm, ⟨22, _⟩ => ⟨S_, .f32⟩
  | .hbm, ⟨23, _⟩ => ⟨S4x4096x2048, .f32⟩
  | .hbm, ⟨24, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.KITrip.lean ====
/-
  The kernel's inner loop. A task holds in tile memory the permutation `p`, a block `B` of eight rows of the flat array and an
  output block; trip `t` writes columns `[16 t, 16 t + 16)` of the eight output rows, one indexed load and one store per row.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.KLaunch
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱₀ : Variants := Variants.none

abbrev UH : Type := URounds (GSem nD τ sig) ℕ
abbrev UU : Type := UH × Counters

local notation "𝕄" => MT nD τ sig (HIx 1) (Elt F) ℕ UU ℕ

local notation "sI" => (Memref.whole Cert.KernelIdeal.cc0_scratch0 : Memref Cert.KernelIdeal.sig Kind.scVector Space.vmem Cert.KernelIdeal.S2048 EltTy.i32)
local notation "sX" => (Memref.whole Cert.KernelIdeal.cc0_scratch1 : Memref Cert.KernelIdeal.sig Kind.scVector Space.vmem Cert.KernelIdeal.S16384 EltTy.f32)
local notation "sO" => (Memref.whole Cert.KernelIdeal.cc0_scratch2 : Memref Cert.KernelIdeal.sig Kind.scVector Space.vmem Cert.KernelIdeal.S16384 EltTy.f32)

/-! ## Flat positions -/

/-- Position `k` of a flat array of `N` elements. -/
def pos {N : ℕ} (k : ℕ) (h : k < N) : (⟨1, ![N]⟩ : Shape).Idx := fun a => ⟨k, by rw [Fin.eq_zero a]; exact h⟩

/-- The coordinate of position `k` is `k`. -/
theorem pos_val {N : ℕ} (k : ℕ) (h : k < N) : ((pos k h) 0).val = k := rfl

/-- A flat index is determined by its one coordinate. -/
theorem flat_ext {N : ℕ} {i j : (⟨1, ![N]⟩ : Shape).Idx} (h : (i 0).val = (j 0).val) : i = j := by
  funext a; rw [Fin.eq_zero a]; exact Fin.ext h

/-- A flat index is below the array's length. -/
theorem flat_lt {N : ℕ} (j : (⟨1, ![N]⟩ : Shape).Idx) : (j 0).val < N := (j 0).isLt

/-- The column of the source that flat position `n` reads: the permutation's word at the position's own column. -/
def col (p : S2048.Idx → Elt F .i32) (n : ℕ) : ℕ :=
  BitVec.toNat (show BitVec 32 from p (pos (n % 2048) (Nat.mod_lt _ (by decide)))) % 2048

/-- A column number is below 2048. -/
theorem col_lt (p : S2048.Idx → Elt F .i32) (n : ℕ) : col p n < 2048 := Nat.mod_lt _ (by decide)

/-- An eight-row block with its columns permuted. -/
def perm8 (p : S2048.Idx → Elt F .i32) (B : S16384.Idx → Elt F .f32) : S16384.Idx → Elt F .f32 := fun j =>
  B (pos ((j 0).val / 2048 * 2048 + col p (j 0).val) (by have := flat_lt j; have := col_lt p (j 0).val; omega))

/-- Every word of the permutation is a column number. -/
def InRange (p : S2048.Idx → Elt F .i32) : Prop := ∀ j, (BitVec.toNat (show BitVec 32 from p j)) < 2048

/-- The output block `f` is right on every column before `16 t`, and on columns `[16 t, 16 t + 16)` of the first `r` rows. -/
def Done (p : S2048.Idx → Elt F .i32) (B : S16384.Idx → Elt F .f32) (t r : ℕ) (f : S16384.Idx → Elt F .f32) : Prop :=
  ∀ j : S16384.Idx, ((j 0).val % 2048 < 16 * t ∨ ((j 0).val % 2048 < 16 * t + 16 ∧ (j 0).val / 2048 < r)) → f j = perm8 p B j

/-- Eight rows done on a trip's columns are the next trip's start. -/
theorem done_next {p : S2048.Idx → Elt F .i32} {B : S16384.Idx → Elt F .f32} {t : ℕ} {f : S16384.Idx → Elt F .f32}
    (h : Done p B t 8 f) : Done p B (t + 1) 0 f := fun j hj => h j (by have := flat_lt j; omega)

/-- After 128 trips the output block is the permuted block. -/
theorem done_all {p : S2048.Idx → Elt F .i32} {B : S16384.Idx → Elt F .f32} {f : S16384.Idx → Elt F .f32}
    (h : Done p B 128 0 f) : f = perm8 p B := funext fun j => h j (.inl (by omega))

/-- Before the first trip nothing is asked of the output block. -/
theorem done_zero {p : S2048.Idx → Elt F .i32} {B : S16384.Idx → Elt F .f32} (f : S16384.Idx → Elt F .f32) : Done p B 0 0 f :=
  fun _ hj => absurd hj (by omega)

/-- Lane `x` of trip `t`'s index vector for row `r`: the permutation's word at column `16 t + x`, moved to row `r`. -/
def LaneOf (p : S2048.Idx → Elt F .i32) (t r : ℕ) (v : IVec S16 32) : Prop :=
  ∀ x : S16.Idx, ∀ h, (v x).toNat = (BitVec.toNat (show BitVec 32 from p (pos (16 * t + (x 0).val) h))) + 2048 * r

/-- Storing row `r`'s sixteen gathered lanes makes row `r` right as well. -/
theorem done_store {p : S2048.Idx → Elt F .i32} {B f : S16384.Idx → Elt F .f32} {t r : ℕ} (ht : t < 128) (hr : r < 8) (hp : InRange p)
    {v : IVec S16 32} (hv : LaneOf p t r v) (hin : ∀ a x, ((![v] : Fin 1 → IVec S16 32) a x).toNat < S16384.size a)
    {off : Fin 1 → ℕ} (hoff : off = ![16 * t + 2048 * r]) (inb : ∀ a, off a + S16.size a ≤ S16384.size a) (h : Done p B t r f) :
    Done p B t (r + 1) ((sO).view.writes (Elt F) f [⟨Rect.unit (s := S16384) off S16.size inb, loadIdx B ![v] hin⟩]) := by
  intro j hj
  have hjl := flat_lt j
  by_cases hm : 16 * t + 2048 * r ≤ (j 0).val ∧ (j 0).val < 16 * t + 2048 * r + 16
  · have hx : (j 0).val - (16 * t + 2048 * r) < 16 := by omega
    refine (View.read_writes_cons_unit_of_mem (sO).view f inb (loadIdx B ![v] hin) [] j (pos (N := 16) _ hx) hoff (fun a => ?_)).trans ?_
    · rw [Fin.eq_zero a]
      show (j 0).val = 16 * t + 2048 * r + ((j 0).val - (16 * t + 2048 * r))
      omega
    · unfold loadIdx perm8
      refine congrArg B (flat_ext ?_)
      show (v (pos (N := 16) _ hx)).toNat = (j 0).val / 2048 * 2048 + col p (j 0).val
      have hc : 16 * t + ((pos (N := 16) _ hx : S16.Idx) 0).val < 2048 := by
        show 16 * t + ((j 0).val - (16 * t + 2048 * r)) < 2048
        omega
      rw [hv _ hc]
      have e : (pos (16 * t + ((pos (N := 16) _ hx : S16.Idx) 0).val) hc : S2048.Idx) = pos ((j 0).val % 2048) (Nat.mod_lt _ (by decide)) :=
        flat_ext (by
          show 16 * t + ((j 0).val - (16 * t + 2048 * r)) = (j 0).val % 2048
          omega)
      have hb := hp (pos ((j 0).val % 2048) (Nat.mod_lt _ (by decide)))
      rw [e]
      unfold col
      rw [Nat.mod_eq_of_lt hb]
      omega
  · refine (View.read_writes_cons_unit_of_not_mem (sO).view f inb (loadIdx B ![v] hin) [] j hoff 0 ?_).trans (h j ?_)
    · show (j 0).val < 16 * t + 2048 * r ∨ 16 * t + 2048 * r + 16 ≤ (j 0).val
      omega
    · omega

/-! ## The index vectors -/

/-- The sixteen words trip `t` loads of the permutation, moved down `r` rows, are lanes in the sense of `LaneOf`. -/
theorem lane_add {p : S2048.Idx → Elt F .i32} {t r : ℕ} (hr : r < 8) (hp : InRange p) {u : IVec S16 32} (hu : LaneOf p t 0 u) (ht : t < 128)
    {w : BitVec 32} (hw : w.toNat = 2048 * r) : LaneOf p t r (addi u (broadcast S16 w)) := by
  intro x h
  show (u x + w).toNat = _
  have hb := hp (pos (16 * t + (x 0).val) h)
  rw [BitVec.toNat_add, hu x h, hw]
  omega

/-- Such lanes name elements of the block. -/
theorem lane_inb {p : S2048.Idx → Elt F .i32} {t r : ℕ} (ht : t < 128) (hr : r < 8) (hp : InRange p) {v : IVec S16 32} (hv : LaneOf p t r v) :
    ∀ a x, ((![v] : Fin 1 → IVec S16 32) a x).toNat < S16384.size a := by
  intro a x
  rw [Fin.eq_zero a]
  show (v x).toNat < 16384
  have hx := flat_lt x
  have hc : 16 * t + (x 0).val < 2048 := by omega
  have hb := hp (pos (16 * t + (x 0).val) hc)
  rw [hv x hc]
  omega

/-- What the load of trip `t`'s sixteen words reads. -/
theorem lane_load {p : S2048.Idx → Elt F .i32} {t : ℕ} {off : Fin 1 → ℕ} (hoff : off = ![16 * t]) (inb : ∀ a, off a + S16.size a ≤ S2048.size a) :
    LaneOf p t 0 ((sI).view.readAt (Elt F) (Rect.unit (s := S2048) off S16.size inb).toLoadRect p) := by
  subst hoff
  intro x h
  show BitVec.toNat (show BitVec 32 from p _) = _
  rw [Nat.mul_zero, Nat.add_zero]
  refine congrArg (fun i => BitVec.toNat (show BitVec 32 from p i)) (flat_ext ?_)
  show 16 * t + 1 * (x 0).val = 16 * t + (x 0).val
  omega

variable [FloatOps F]

section Trip

variable (d : Dev nD) (L : grid0.Coords)

abbrev cV (L : grid0.Coords) : Fin τ.nSC := (L 0).castLE hcore0
abbrev jV (L : grid0.Coords) : Fin τ.nSub := (L 1).castLE hsub0

/-- The task's three tile buffers: the permutation, the input block, the output block. -/
abbrev iB : Loc nD τ sig := (V d (cV L) (jV L)).loc cc0_scratch0
abbrev xB : Loc nD τ sig := (V d (cV L) (jV L)).loc cc0_scratch1
abbrev oB : Loc nD τ sig := (V d (cV L) (jV L)).loc cc0_scratch2

/-- One row of one trip, ahead of the rest `k`: the check on the indices, the indexed load, a load of the output lanes whose value
    nothing reads, and the store. -/
def rowProg (v : IVec S16 32) (C : Prop) (dec : Decidable C) (hin : C → ∀ a x, ((![v] : Fin 1 → IVec S16 32) a x).toNat < S16384.size a)
    (off : Fin 1 → ℕ) (inb : ∀ a, off a + S16.size a ≤ S16384.size a)
    (k : Prog (TpuEff nD τ sig (Elt F) Λ₀ (.scVector (cV L) (jV L))) PUnit) : Prog (TpuEff nD τ sig (Elt F) Λ₀ (.scVector (cV L) (jV L))) PUnit :=
  .op (.assume C dec) fun h => .op (.load sX (.whole S16384) (View.loadsAt_whole (View.loads_vmem h_S16384))) fun g =>
    .op (.load sO (Rect.unit (s := S16384) off S16.size inb).toLoadRect (View.loadsAt_vmem h_S16)) fun _ =>
    .op (.store sO (Rect.unit (s := S16384) off S16.size inb) (loadIdx g ![v] (hin h.down)) Finset.univ (View.stores_vmem_bits_univ h_S16 rfl) (.inl rfl))
      fun _ => k

-- the eight rows of a trip are one nested term, some thirty operations deep, compared as a whole
set_option maxRecDepth 65536 in
/-- A trip is the load of sixteen words of the permutation and eight rows. -/
theorem body_eq (xV oV : Memref sig .scVector .hbm S33554432 .f32) (hx : xV.IsWhole) (ho : oV.IsWhole) (pV : Memref sig .scVector .hbm S2048 .i32)
    (hpV : pV.IsWhole) (a b c : DmaSems sig S_) (t : Fin k0_t2_loop.trips) (u : Unit) :
    (k0_t2_body L xV hx pV hpV oV ho sI (Memref.isWhole_whole _) sX (Memref.isWhole_whole _) sO (Memref.isWhole_whole _) a b c t u
      : Prog (TpuEff nD τ sig (Elt F) Λ₀ (.scVector (cV L) (jV L))) PUnit)
      = .op (.load sI (Rect.unit (s := S2048) (k0_off2 t) S16.size (k0_off2_inb t)).toLoadRect (View.loadsAt_vmem h_S16)) fun v =>
        rowProg L (k0_pay4 v) (k0_chk1 (k0_pay4 v)) (k0_chk1.dec _) (k0_idx1_inb _) (k0_off3 t) (k0_off3_inb t) <|
        rowProg L (k0_pay5 v) (k0_chk2 (k0_pay5 v)) (k0_chk2.dec _) (k0_idx2_inb _) (k0_off4 t) (k0_off4_inb t) <|
        rowProg L (k0_pay6 v) (k0_chk3 (k0_pay6 v)) (k0_chk3.dec _) (k0_idx3_inb _) (k0_off5 t) (k0_off5_inb t) <|
        rowProg L (k0_pay7 v) (k0_chk4 (k0_pay7 v)) (k0_chk4.dec _) (k0_idx4_inb _) (k0_off6 t) (k0_off6_inb t) <|
        rowProg L (k0_pay8 v) (k0_chk5 (k0_pay8 v)) (k0_chk5.dec _) (k0_idx5_inb _) (k0_off7 t) (k0_off7_inb t) <|
        rowProg L (k0_pay1 v) (k0_chk6 (k0_pay1 v)) (k0_chk6.dec _) (k0_idx6_inb _) (k0_off8 t) (k0_off8_inb t) <|
        rowProg L (k0_pay2 v) (k0_chk7 (k0_pay2 v)) (k0_chk7.dec _) (k0_idx7_inb _) (k0_off9 t) (k0_off9_inb t) <|
        rowProg L (k0_pay3 v) (k0_chk8 (k0_pay3 v)) (k0_chk8.dec _) (k0_idx8_inb _) (k0_off10 t) (k0_off10_inb t) <|
        .ret ⟨⟩ := rfl

/-- A row takes an output block right on `r` rows to one right on `r + 1`. -/
theorem wp_row {p : S2048.Idx → Elt F .i32} {B : S16384.Idx → Elt F .f32} {t r : ℕ} (ht : t < 128) (hr : r < 8) (hp : InRange p)
    {v : IVec S16 32} (hv : LaneOf p t r v) {off : Fin 1 → ℕ} (hoff : off = ![16 * t + 2048 * r])
    {inb : ∀ a, off a + S16.size a ≤ S16384.size a}
    {C : Prop} {dec : Decidable C} {hin : C → ∀ a x, ((![v] : Fin 1 → IVec S16 32) a x).toNat < S16384.size a} (hC : C)
    {k : Prog (TpuEff nD τ sig (Elt F) Λ₀ (.scVector (cV L) (jV L))) PUnit} {Q : PUnit → sProp 𝕄} :
    iprop((xB d L ↦{fullShare} B) ∗ (∃ f, ⌜Done p B t r f⌝ ∗ oB d L ↦{fullShare} f)
        ∗ ((xB d L ↦{fullShare} B) -∗ (∃ f, ⌜Done p B t (r + 1) f⌝ ∗ oB d L ↦{fullShare} f)
            -∗ wp frame (wpE (defs₀ (F := F)) 𝒱₀ (V d (cV L) (jV L)) none) Set.univ k Q))
      ⊢ wp frame (wpE (defs₀ (F := F)) 𝒱₀ (V d (cV L) (jV L)) none) Set.univ (rowProg L v C dec hin off inb k) Q := by
  unfold rowProg
  iintro ⟨Hx, ⟨%f, %hf, Ho⟩, Hk⟩
  rw [wp_assume_of _ _ _ _ hC]
  iapply (wp_load 𝒱₀ (V d (cV L) (jV L)) none Set.univ (m := sX) (S := Finset.univ) (q := fullShare) (f := B) (Finset.subset_univ _)) $$ [Hx]
  · iexact Hx
  iintro Hx
  iapply (wp_load 𝒱₀ (V d (cV L) (jV L)) none Set.univ (m := sO) (S := Finset.univ) (q := fullShare) (f := f) (Finset.subset_univ _)) $$ [Ho]
  · iexact Ho
  iintro Ho
  iapply (wp_store 𝒱₀ (V d (cV L) (jV L)) none Set.univ (m := sO) (S := Finset.univ) (f := f) (Finset.subset_univ _)) $$ [Ho]
  · iexact Ho
  iintro Ho
  iapply Hk $$ [Hx]
  · iexact Hx
  iexists _
  isplitr
  swap; · iexact Ho
  ipureintro
  rw [show (sX).view.readAt (Elt F) (LoadRect.whole S16384) B = B from Memref.readAt_whole (Elt F) cc0_scratch1 B]
  exact done_store ht hr hp hv _ hoff inb hf

/-- What the task holds between trips of the inner loop: the permutation, the input block, and an output block right on the
    columns of the first `t` trips. -/
def tripInv (p : S2048.Idx → Elt F .i32) (B : S16384.Idx → Elt F .f32) (t : ℕ) : sProp 𝕄 :=
  iprop((iB d L ↦{fullShare} p) ∗ (xB d L ↦{fullShare} B) ∗ ∃ f, ⌜Done p B t 0 f⌝ ∗ oB d L ↦{fullShare} f)

/-- One trip of the inner loop: the load of sixteen words of the permutation, and eight rows. -/
theorem wp_trip {p : S2048.Idx → Elt F .i32} {B : S16384.Idx → Elt F .f32} (hp : InRange p)
    (xV oV : Memref sig .scVector .hbm S33554432 .f32) (hx : xV.IsWhole) (ho : oV.IsWhole) (pV : Memref sig .scVector .hbm S2048 .i32) (hpV : pV.IsWhole)
    (a b c : DmaSems sig S_) (t : Fin k0_t2_loop.trips) (u : Unit) :
    tripInv d L p B t.val ⊢ wp frame (wpE (defs₀ (F := F)) 𝒱₀ (V d (cV L) (jV L)) none) Set.univ
      (k0_t2_body L xV hx pV hpV oV ho sI (Memref.isWhole_whole _) sX (Memref.isWhole_whole _) sO (Memref.isWhole_whole _) a b c t u)
      fun _ => tripInv d L p B (t.val + 1) := by
  have ht : t.val < 128 := Nat.lt_of_lt_of_le t.isLt k0_t2_abs.2.1
  rw [body_eq]
  unfold tripInv
  iintro ⟨Hi, Hx, Ho⟩
  iapply (wp_load 𝒱₀ (V d (cV L) (jV L)) none Set.univ (m := sI) (S := Finset.univ) (q := fullShare) (f := p) (Finset.subset_univ _)) $$ [Hi]
  · iexact Hi
  iintro Hi
  have hu := lane_load (p := p) (k0_off2_eq t) (k0_off2_inb t)
  generalize (sI).view.readAt (Elt F) (Rect.unit (s := S2048) (k0_off2 t) S16.size (k0_off2_inb t)).toLoadRect p = v at hu ⊢
  have h0 : LaneOf p t.val 0 (k0_pay4 v) := lane_add (by decide) hp hu ht (w := 0#32) rfl
  iapply (wp_row d L (r := 0) ht (by decide) hp h0 (k0_off3_eq t) (lane_inb ht (by decide) hp h0))
  isplitl [Hx]; · iexact Hx
  isplitl [Ho]; · iexact Ho
  iintro Hx; iintro Ho
  have h1 : LaneOf p t.val 1 (k0_pay5 v) := lane_add (by decide) hp hu ht (w := 2048#32) rfl
  iapply (wp_row d L (r := 1) ht (by decide) hp h1 (k0_off4_eq t) (lane_inb ht (by decide) hp h1))
  isplitl [Hx]; · iexact Hx
  isplitl [Ho]; · iexact Ho
  iintro Hx; iintro Ho
  have h2 : LaneOf p t.val 2 (k0_pay6 v) := lane_add (by decide) hp hu ht (w := 4096#32) rfl
  iapply (wp_row d L (r := 2) ht (by decide) hp h2 (k0_off5_eq t) (lane_inb ht (by decide) hp h2))
  isplitl [Hx]; · iexact Hx
  isplitl [Ho]; · iexact Ho
  iintro Hx; iintro Ho
  have h3 : LaneOf p t.val 3 (k0_pay7 v) := lane_add (by decide) hp hu ht (w := 6144#32) rfl
  iapply (wp_row d L (r := 3) ht (by decide) hp h3 (k0_off6_eq t) (lane_inb ht (by decide) hp h3))
  isplitl [Hx]; · iexact Hx
  isplitl [Ho]; · iexact Ho
  iintro Hx; iintro Ho
  have h4 : LaneOf p t.val 4 (k0_pay8 v) := lane_add (by decide) hp hu ht (w := 8192#32) rfl
  iapply (wp_row d L (r := 4) ht (by decide) hp h4 (k0_off7_eq t) (lane_inb ht (by decide) hp h4))
  isplitl [Hx]; · iexact Hx
  isplitl [Ho]; · iexact Ho
  iintro Hx; iintro Ho
  have h5 : LaneOf p t.val 5 (k0_pay1 v) := lane_add (by decide) hp hu ht (w := 10240#32) rfl
  iapply (wp_row d L (r := 5) ht (by decide) hp h5 (k0_off8_eq t) (lane_inb ht (by decide) hp h5))
  isplitl [Hx]; · iexact Hx
  isplitl [Ho]; · iexact Ho
  iintro Hx; iintro Ho
  have h6 : LaneOf p t.val 6 (k0_pay2 v) := lane_add (by decide) hp hu ht (w := 12288#32) rfl
  iapply (wp_row d L (r := 6) ht (by decide) hp h6 (k0_off9_eq t) (lane_inb ht (by decide) hp h6))
  isplitl [Hx]; · iexact Hx
  isplitl [Ho]; · iexact Ho
  iintro Hx; iintro Ho
  have h7 : LaneOf p t.val 7 (k0_pay3 v) := lane_add (by decide) hp hu ht (w := 14336#32) rfl
  iapply (wp_row d L (r := 7) ht (by decide) hp h7 (k0_off10_eq t) (lane_inb ht (by decide) hp h7))
  isplitl [Hx]; · iexact Hx
  isplitl [Ho]; · iexact Ho
  iintro Hx; iintro Ho
  icases Ho with ⟨%f, %hf, Ho⟩
  rw [wp_ret]; imodintro
  isplitl [Hi]; · iexact Hi
  isplitl [Hx]; · iexact Hx
  iexists f; isplitr
  · ipureintro; exact done_next hf
  · iexact Ho

end Trip

end Cert.Proof.KernelIdeal

end
-- ==== Proof.KITile.lean ====
/-
  One task of the kernel. A task reads the permutation, then for each of its sixty-four blocks of eight rows copies the block
  in, permutes its columns into the output block, and copies that block out.
-/
module

public import proofs.«01_k».proof.Proof.KITrip
public import Idealize.ShloMosaic.Lib.ShareLeaves

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
/-- The call runs on two SparseCores, -/
theorem nCore_zero : (K (F := F)).nCore 0 = 2 := rfl
/-- with sixteen vector subcores each. -/
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none

/-- The handshake's semaphores are distinct and none is scoped; no buffer is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

local notation "vV" => (Memref.whole Cert.KernelIdeal.main_v0_scv : Memref Cert.KernelIdeal.sig Kind.scVector Space.hbm Cert.KernelIdeal.S33554432 EltTy.f32)
local notation "pV" => (Memref.whole Cert.KernelIdeal.main_arg1_scv : Memref Cert.KernelIdeal.sig Kind.scVector Space.hbm Cert.KernelIdeal.S2048 EltTy.i32)
local notation "wV" => (Memref.whole Cert.KernelIdeal.main_v1_scv : Memref Cert.KernelIdeal.sig Kind.scVector Space.hbm Cert.KernelIdeal.S33554432 EltTy.f32)
local notation "sI" => (Memref.whole Cert.KernelIdeal.cc0_scratch0 : Memref Cert.KernelIdeal.sig Kind.scVector Space.vmem Cert.KernelIdeal.S2048 EltTy.i32)
local notation "sX" => (Memref.whole Cert.KernelIdeal.cc0_scratch1 : Memref Cert.KernelIdeal.sig Kind.scVector Space.vmem Cert.KernelIdeal.S16384 EltTy.f32)
local notation "sO" => (Memref.whole Cert.KernelIdeal.cc0_scratch2 : Memref Cert.KernelIdeal.sig Kind.scVector Space.vmem Cert.KernelIdeal.S16384 EltTy.f32)

/-- The flat source, the permutation and the flat result, as locations of device `d`. -/
abbrev vLoc (d : Dev nD) : Loc nD τ sig := (SparseCore.T d).loc main_v0
abbrev pLoc (d : Dev nD) : Loc nD τ sig := (SparseCore.T d).loc main_arg1
abbrev wLoc (d : Dev nD) : Loc nD τ sig := (SparseCore.T d).loc main_v1

/-! ## The value -/

/-- The flat array with the columns of every row permuted. -/
def permAll (p : S2048.Idx → Elt F .i32) (X : S33554432.Idx → Elt F .f32) : S33554432.Idx → Elt F .f32 := fun j =>
  X (pos ((j 0).val / 2048 * 2048 + col p (j 0).val) (by have := flat_lt j; have := col_lt p (j 0).val; omega))

/-! ## A task's share of the arrays -/

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The read share of task `(c, s)`: one of thirty-two equal parts. -/
def tq (c : Fin 2) (s : Fin 16) : PosShare TreeShare := ShareLeaves.leaf 5 fullShare (finCongr (by decide) (finProdFinEquiv (c, s)))

/-- Block `t` of task `L`, as the program slices it out of a flat array. -/
abbrev rectB (L : grid0.Coords) (t : Fin k0_t1_loop.trips) : Rect S33554432 :=
  Rect.unit (s := S33554432) (k0_off1 L t) S16384.size (k0_off1_inb L t)
abbrev vB (L : grid0.Coords) (t : Fin k0_t1_loop.trips) : Memref sig .scVector .hbm S16384 .f32 := (vV).slice (rectB L t) (fun _ => rfl)
abbrev wB (L : grid0.Coords) (t : Fin k0_t1_loop.trips) : Memref sig .scVector .hbm S16384 .f32 := (wV).slice (rectB L t) (fun _ => rfl)
abbrev blk (L : grid0.Coords) (t : Fin k0_t1_loop.trips) : Finset S33554432.Idx := (wB L t).view.set

/-- A task reads the source and the permutation and owns its sixty-four blocks of the result `f`. -/
def piece (d : Dev nD) (X : Buf (Elt F) (vLoc d)) (p : Buf (Elt F) (pLoc d)) (f : Buf (Elt F) (wLoc d))
    (q : PosShare TreeShare) (L : grid0.Coords) : sProp 𝕄 :=
  iprop((vLoc d ↦{q} X) ∗ (pLoc d ↦{q} p) ∗ bigSep Finset.univ fun t => wLoc d ↦[blk L t]{fullShare} f)

/-! ## One block -/

section Block

variable (L : grid0.Coords) (t : Fin k0_t1_loop.trips)

/-- The block of the flat source the task copies in. -/
abbrev inBlock (X : S33554432.Idx → Elt F .f32) : S16384.Idx → Elt F .f32 := (vB L t).view.read (Elt F) X

/-- Where element `x` of a block stands in the flat array. -/
theorem emb_block (x : S16384.Idx) :
    (((wB L t).view.emb x) 0).val = 2097152 * (L 1).val + 1048576 * (L 0).val + 16384 * t.val + (x 0).val := by
  have h : (((wB L t).view.emb x) 0).val = k0_off1 L t 0 + 1 * (x 0).val := rfl
  rw [h, k0_off1_eq, Nat.one_mul]; rfl

/-- A position's column, hence the word of the permutation it reads, is unchanged by a whole number of rows. -/
theorem col_add (p : S2048.Idx → Elt F .i32) (a n : ℕ) : col p (2048 * a + n) = col p n := by
  unfold col
  rw [show (pos ((2048 * a + n) % 2048) (Nat.mod_lt _ (by decide)) : S2048.Idx) = pos (n % 2048) (Nat.mod_lt _ (by decide)) from
    flat_ext (show (2048 * a + n) % 2048 = n % 2048 by omega)]

/-- Permuting the columns of a block is permuting those of the whole array. -/
theorem perm8_block (p : S2048.Idx → Elt F .i32) (X : S33554432.Idx → Elt F .f32) (x : S16384.Idx) :
    perm8 p (inBlock L t X) x = permAll p X ((wB L t).view.emb x) := by
  have hx := flat_lt x
  have hc := col_lt p (x 0).val
  unfold perm8 permAll
  rw [show inBlock L t X = fun y => X ((wB L t).view.emb y) from rfl]
  refine congrArg X (flat_ext ?_)
  rw [emb_block]
  show _ = (((wB L t).view.emb x) 0).val / 2048 * 2048 + col p (((wB L t).view.emb x) 0).val
  rw [emb_block, show 2097152 * (L 1).val + 1048576 * (L 0).val + 16384 * t.val + (x 0).val
    = 2048 * (1024 * (L 1).val + 512 * (L 0).val + 8 * t.val) + (x 0).val by omega, col_add, pos_val]
  omega

/-- Writing a permuted block over the block's elements leaves the permuted array there. -/
theorem write_block (p : S2048.Idx → Elt F .i32) (X o : S33554432.Idx → Elt F .f32) :
    ∀ j ∈ blk L t, (wB L t).view.write (Elt F) o (perm8 p (inBlock L t X)) Finset.univ j = permAll p X j := by
  intro j hj
  obtain ⟨x, -, rfl⟩ := Finset.mem_map.mp hj
  exact ((wB L t).view.write_emb_of_mem o _ (Finset.mem_univ x)).trans (perm8_block L t p X x)

end Block

section Tile

variable [FloatOps F]
variable (d : Dev nD) (L : grid0.Coords)

/-- The three scoped cells the body names: the permutation's copy, a block's copy in, a block's copy out. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

omit [FloatOps F] in
/-- A task's own semaphores are the three named cells and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped2.sem : SemLoc sig).isScoped .scVector = true; decide⟩⟩⟩)]

omit [FloatOps F] in
/-- A task's own buffers are the three scratches, each at some contents, and the rest. -/
theorem ownBufs_V :
    (ownBufs (V d (cV L) (jV L)) : sProp 𝕄)
      = iprop((∃ f, iB d L ↦{fullShare} f) ∗ (∃ f, xB d L ↦{fullShare} f) ∗ (∃ f, oB d L ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-- The result's blocks after `k` of them have been written: the first `k` permuted, the others as they were. -/
def upTo (k : ℕ) (G o : Buf (Elt F) (wLoc d)) : Fin k0_t1_loop.trips → Buf (Elt F) (wLoc d) := fun t => if t.val < k then G else o

omit [FloatOps F] in
/-- Blocks whose contents agree may be exchanged. -/
theorem blocks_congr {A : Finset (Fin k0_t1_loop.trips)} {f g : Fin k0_t1_loop.trips → Buf (Elt F) (wLoc d)} (h : ∀ t ∈ A, f t = g t) :
    (bigSep A fun t => wLoc d ↦[blk L t]{fullShare} f t : sProp 𝕄) ⊢ bigSep A fun t => wLoc d ↦[blk L t]{fullShare} g t :=
  Entails.of_eq (bigSep_congr fun t ht => by rw [h t ht])

/-- What the task holds between trips of the outer loop, the first `k` blocks written. -/
def blockInv (X : Buf (Elt F) (vLoc d)) (p : Buf (Elt F) (pLoc d)) (o : Buf (Elt F) (wLoc d)) (q : PosShare TreeShare)
    (O : CellTallies nD τ sig (HIx 1)) (k : ℕ) (_ : PUnit) : sProp 𝕄 :=
  iprop(Transfers.MayWaits (V d (cV L) (jV L)) (default : HIx 1) O
    ∗ (iB d L ↦{fullShare} p) ∗ (∃ f, xB d L ↦{fullShare} f) ∗ (∃ f, oB d L ↦{fullShare} f)
    ∗ ((vV).view.loc (V d (cV L) (jV L)) ↦{q} X)
    ∗ (bigSep Finset.univ fun t => wLoc d ↦[blk L t]{fullShare} upTo d k (permAll p X) o t)
    ∗ semVal (cBcell d (cV L) (jV L)) 0 ∗ semVal (cCcell d (cV L) (jV L)) 0
    ∗ ∃ W', owes (V d (cV L) (jV L)) O W')

omit [FloatOps F] in
/-- The inner loop runs 128 times, the outer one 64 times. -/
theorem trips_inner : k0_t2_loop.trips = 128 := by decide
omit [FloatOps F] in
theorem trips_outer : k0_t1_loop.trips = 64 := by decide

/-- One trip of the outer loop writes one more block. -/
theorem wp_block {X : Buf (Elt F) (vLoc d)} {p : Buf (Elt F) (pLoc d)} (hp : InRange p) {o : Buf (Elt F) (wLoc d)} {q : PosShare TreeShare}
    {O : CellTallies nD τ sig (HIx 1)} (t : Fin k0_t1_loop.trips) (u : PUnit) :
    blockInv d L X p o q O t.val u ⊢ wp frame (wpE (defs₀ (F := F)) 𝒱₀ (V d (cV L) (jV L)) none) Set.univ
      (k0_t1_body L vV (Memref.isWhole_whole _) pV (Memref.isWhole_whole _) wV (Memref.isWhole_whole _) sI (Memref.isWhole_whole _)
        sX (Memref.isWhole_whole _) sO (Memref.isWhole_whole _) cc0_scoped0 cc0_scoped1 cc0_scoped2 t u)
      fun u' => blockInv d L X p o q O (t.val + 1) u' := by
  unfold blockInv k0_t1_body
  rw [SparseCore.bigSep_erase' (Finset.mem_univ t)]
  iintro ⟨Hmw, Hi, ⟨%f, Hx⟩, ⟨%g, Ho⟩, Hv, ⟨Hw, Hws⟩, HB, HC, %W', HO⟩
  ihave Hw' := (show (wLoc d ↦[blk L t]{fullShare} upTo d t.val (permAll p X) o t : sProp 𝕄)
    ⊢ (wB L t).view.loc (V d (cV L) (jV L)) ↦[(wB L t).view.set]{fullShare} upTo d t.val (permAll p X) o t from .rfl) $$ Hw
  ihave Hx' := (show (xB d L ↦{fullShare} f : sProp 𝕄) ⊢ (sX).view.loc (V d (cV L) (jV L)) ↦{fullShare} f from .rfl) $$ Hx
  ihave Ho' := (show (oB d L ↦{fullShare} g : sProp 𝕄) ⊢ (sO).view.loc (V d (cV L) (jV L)) ↦{fullShare} g from .rfl) $$ Ho
  sl_exec (disch := exact View.amount_pos _ _ (show 0 < S16384.numel by decide))
  rw [View.write_whole_univ]
  rw [show wp_block.sl.dma0 d L (X := X) t = inBlock L t X from rfl]
  sl_for (fun k _ => tripInv d L p (inBlock L t X) k) $$ [Hi Hx' Ho']
  case region => exact fun k u' => wp_trip d L hp _ _ _ _ _ _ _ _ _ k u'
  · unfold tripInv
    isplitl [Hi]; · iexact Hi
    isplitl [Hx']; · iexact Hx'
    iexists g; isplitr
    · ipureintro; exact done_zero g
    · iexact Ho'
  iintro %_ HI
  unfold tripInv
  icases HI with ⟨Hi, Hx, ⟨%f', %hf, Ho⟩⟩
  ihave Ho' := (show (oB d L ↦{fullShare} f' : sProp 𝕄) ⊢ (sO).view.loc (V d (cV L) (jV L)) ↦{fullShare} f' from .rfl) $$ Ho
  sl_exec (disch := exact View.amount_pos _ _ (show 0 < S16384.numel by decide))
  rw [← View.write_univ_eq_writes_whole, show wp_block.sl.dma0_1 f' = f' from rfl,
    done_all (show Done p (inBlock L t X) 128 0 f' from trips_inner ▸ hf)]
  sl_step
  isplitl [Hmw]; · iexact Hmw
  isplitl [Hi]; · iexact Hi
  isplitl [Hx]; · iexists _; iexact Hx
  isplitl [Ho']; · iexists _; iexact Ho'
  isplitl [Hv]; · iexact Hv
  isplitl [Hws Hw']
  · iapply (Entails.of_eq (SparseCore.bigSep_erase' (Finset.mem_univ t)).symm)
    isplitl [Hw']
    · iapply (Entails.of_eq (pointsTo_congr (ℓ := wLoc d) (I := blk L t) fun j hj =>
        (write_block L t p X _ j hj).trans (by unfold upTo; rw [if_pos (Nat.lt_succ_self _)])))
      iexact Hw'
    · iapply (blocks_congr d L (f := upTo d t.val (permAll p X) o) fun t' ht' => by
        have hne : t'.val ≠ t.val := fun e => (Finset.mem_erase.mp ht').1 (Fin.ext e)
        unfold upTo
        by_cases h : t'.val < t.val
        · rw [if_pos h, if_pos (by omega)]
        · rw [if_neg h, if_neg (by omega)])
      iexact Hws
  isplitl [HB]; · iexact HB
  isplitl [HC]; · iexact HC
  iexists _; iexact HO

/-- The task: the permutation's copy, then sixty-four blocks. -/
theorem tile_body {X : Buf (Elt F) (vLoc d)} {p : Buf (Elt F) (pLoc d)} (hp : InRange p) {o : Buf (Elt F) (wLoc d)} {q : PosShare TreeShare}
    (hF : (K (F := F)).Facts) (O : CellTallies nD τ sig (HIx 1)) (W : Waits sig (HIx 1)) (hO : ∀ g, O g none = 0) :
    iprop(levAts (K (F := F)).L (K (F := F)).lev ∗ emp ∗ piece d X p o q L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_run L vV (Memref.isWhole_whole _) pV (Memref.isWhole_whole _) wV (Memref.isWhole_whole _) sI (Memref.isWhole_whole _)
            sX (Memref.isWhole_whole _) sO (Memref.isWhole_whole _) cc0_scoped0 cc0_scoped1 cc0_scoped2)
          fun _ => iprop(piece d X p (permAll p X) q L
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  unfold piece
  iintro ⟨#Hlv, -, ⟨Hv, Hp, Hw⟩, ⟨⟨%fi, Hi⟩, ⟨%fx, Hx⟩, ⟨%fo, Ho⟩, Hbufs⟩, ⟨HA, HB, HC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hp' := (show (pLoc d ↦{q} p : sProp 𝕄) ⊢ (pV).view.loc (V d (cV L) (jV L)) ↦{q} p from .rfl) $$ Hp
  ihave Hi' := (show (iB d L ↦{fullShare} fi : sProp 𝕄) ⊢ (sI).view.loc (V d (cV L) (jV L)) ↦{fullShare} fi from .rfl) $$ Hi
  rw [cc0_run_eq_skeleton]; unfold cc0_run_skel
  sl_exec (disch := exact View.amount_pos _ _ (show 0 < S2048.numel by decide))
  rw [View.write_whole_univ]
  rw [show tile_body.sl.dma0 d (p := p) = p from rfl]
  sl_for (blockInv d L X p o q O) $$ [Hmw Hi' Hx Ho Hv Hw HB HC HO]
  case region => exact fun t u => wp_block d L hp t u
  · unfold blockInv
    isplitl [Hmw]; · iexact Hmw
    isplitl [Hi']; · iexact Hi'
    isplitl [Hx]; · iexists _; iexact Hx
    isplitl [Ho]; · iexists _; iexact Ho
    isplitl [Hv]; · iexact Hv
    isplitl [Hw]
    · iapply (blocks_congr d L (f := fun _ => o) fun t _ => (if_neg (Nat.not_lt_zero _)).symm)
      iexact Hw
    isplitl [HB]; · iexact HB
    isplitl [HC]; · iexact HC
    iexists _; iexact HO
  iintro %_ HI
  unfold blockInv
  icases HI with ⟨-, Hi, Hx, Ho, Hv, Hw, HB, HC, %W', HO⟩
  sl_step
  isplitl [Hv Hp' Hw]
  · isplitl [Hv]; · iexact Hv
    isplitl [Hp']; · iexact Hp'
    iapply (blocks_congr d L (f := upTo d k0_t1_loop.trips (permAll p X) o) (g := fun _ => permAll p X) fun t _ => if_pos t.isLt)
    iexact Hw
  isplitl [Hi Hx Ho Hbufs]
  · isplitl [Hi]; · iexists _; iexact Hi
    isplitl [Hx]; · iexact Hx
    isplitl [Ho]; · iexact Ho
    iexact Hbufs
  isplitl [HA HB HC Hsems]
  · isplitl [HA]; · iexact HA
    isplitl [HB]; · iexact HB
    isplitl [HC]; · iexact HC
    iexact Hsems
  iexists W'; isplitr
  swap; · iexact HO
  ipureintro; intro r _
  rcases r.2 with _ | c
  · exact .inr (.inl rfl)
  · exact .inr (.inr (congrArg some (Subsingleton.elim c 0)))

end Tile

end Cert.Proof.KernelIdeal

end
-- ==== Proof.KILaunch.lean ====
/-
  The whole program: the source flattened, the arrays dealt to the thirty-two tasks and gathered again, the flat result given
  its shape. `run_main` states what it leaves; the frame is that statement with the value dropped.
-/
module

public import proofs.«01_k».proof.Proof.KITile

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

/-! ## The arrays dealt to the tasks -/

/-- The elements of a task's block are 16384 consecutive ones. -/
theorem mem_blk (L : grid0.Coords) (t : Fin k0_t1_loop.trips) (j : S33554432.Idx) :
    j ∈ blk L t ↔ 2097152 * (L 1).val + 1048576 * (L 0).val + 16384 * t.val ≤ (j 0).val
      ∧ (j 0).val < 2097152 * (L 1).val + 1048576 * (L 0).val + 16384 * t.val + 16384 := by
  show j ∈ ((View.whole main_v1_scv : View sig .scVector _ _ _).slice (rectB L t)).set ↔ _
  rw [View.set_slice_whole]
  refine Rect.mem_set_unit.trans ?_
  rw [k0_off1_eq]
  constructor
  · exact fun h => h 0
  · intro h a
    rw [Fin.eq_zero a]; exact h

/-- A block of the result, named by SparseCore, subcore and number. -/
abbrev blkOf (x : Fin 2 × Fin 16 × Fin k0_t1_loop.trips) : Finset S33554432.Idx := blk (coordsV x.1 x.2.1) x.2.2

/-- Block `t` of task `(c, s)` is 16384 elements from its own start on. -/
theorem mem_blkOf (x : Fin 2 × Fin 16 × Fin k0_t1_loop.trips) (j : S33554432.Idx) :
    j ∈ blkOf x ↔ 2097152 * x.2.1.val + 1048576 * x.1.val + 16384 * x.2.2.val ≤ (j 0).val
      ∧ (j 0).val < 2097152 * x.2.1.val + 1048576 * x.1.val + 16384 * x.2.2.val + 16384 := mem_blk _ _ _

/-- Different blocks share no element. -/
theorem blocks_disjoint : ∀ x ∈ (Finset.univ : Finset (Fin 2 × Fin 16 × Fin k0_t1_loop.trips)), ∀ y ∈ Finset.univ, x ≠ y →
    Disjoint (blkOf x) (blkOf y) := by
  rintro ⟨c, s, t⟩ - ⟨c', s', t'⟩ - hne
  refine Finset.disjoint_left.mpr fun j hx hy => hne ?_
  have hx := (mem_blkOf _ j).mp hx
  have hy := (mem_blkOf _ j).mp hy
  dsimp only at hx hy
  have ht : t.val < 64 := t.isLt.trans_eq trips_outer
  have ht' : t'.val < 64 := t'.isLt.trans_eq trips_outer
  have hc : c = c' := Fin.ext (by omega)
  have hs : s = s' := Fin.ext (by omega)
  have htt : t = t' := Fin.ext (by omega)
  rw [hc, hs, htt]

/-- Every element lies in a block. -/
theorem exists_block (j : S33554432.Idx) : ∃ x, j ∈ blkOf x := by
  have hj : (j 0).val < 33554432 := flat_lt j
  have ht : (j 0).val % 1048576 / 16384 < k0_t1_loop.trips := by rw [trips_outer]; omega
  refine ⟨(⟨(j 0).val % 2097152 / 1048576, by omega⟩, ⟨(j 0).val / 2097152, by omega⟩, ⟨(j 0).val % 1048576 / 16384, ht⟩), ?_⟩
  rw [mem_blkOf]
  dsimp only
  omega

/-- Sets of which every element lies in one cover. -/
theorem biUnion_of_exists {α β : Type} [Fintype α] [Fintype β] [DecidableEq β] (A : α → Finset β) (h : ∀ j, ∃ x, j ∈ A x) :
    Finset.univ.biUnion A = Finset.univ := by
  refine Finset.eq_univ_of_forall fun j => ?_
  obtain ⟨x, hx⟩ := h j
  exact Finset.mem_biUnion.mpr ⟨x, Finset.mem_univ x, hx⟩

/-- The blocks cover the result. -/
theorem blocks_cover : (Finset.univ : Finset (Fin 2 × Fin 16 × Fin k0_t1_loop.trips)).biUnion blkOf = Finset.univ :=
  biUnion_of_exists blkOf exists_block

/-- An array held outright is thirty-two read shares of it. -/
theorem shares_deal (ℓ : Loc nD τ sig) (f : Buf (Elt F) ℓ) :
    (ℓ ↦{fullShare} f : sProp 𝕄) = bigSep Finset.univ fun c : Fin 2 => bigSep Finset.univ fun s : Fin 16 => ℓ ↦{tq c s} f := by
  rw [ShareLeaves.pointsTo_leaves Finset.univ f 5 fullShare,
    bigSep_univ_equiv ((finProdFinEquiv (m := 2) (n := 16)).trans (finCongr (by decide))), bigSep_univ_prod]
  rfl

/-- The result held outright is its blocks. -/
theorem blocks_deal (d : Dev nD) (f : Buf (Elt F) (wLoc d)) :
    (wLoc d ↦{fullShare} f : sProp 𝕄) = bigSep Finset.univ fun c : Fin 2 => bigSep Finset.univ fun s : Fin 16 =>
      bigSep Finset.univ fun t => wLoc d ↦[blk (coordsV c s) t]{fullShare} f := by
  rw [← blocks_cover, pointsTo_biUnion Finset.univ (ℓ := wLoc d) blkOf blocks_disjoint, bigSep_univ_prod]
  exact bigSep_congr fun c _ => bigSep_univ_prod _

/-- What task `(c, s)` is handed, and, at another result, what it hands back. -/
def task (d : Dev nD) (X : Buf (Elt F) (vLoc d)) (p : Buf (Elt F) (pLoc d)) (f : Buf (Elt F) (wLoc d)) (c : Fin 2) (s : Fin 16) : sProp 𝕄 :=
  piece d X p f (tq c s) (coordsV c s)

/-- Source, permutation and result held outright are what the thirty-two tasks hold. -/
theorem deal (d : Dev nD) (X : Buf (Elt F) (vLoc d)) (p : Buf (Elt F) (pLoc d)) (f : Buf (Elt F) (wLoc d)) :
    (iprop((vLoc d ↦{fullShare} X) ∗ (pLoc d ↦{fullShare} p) ∗ wLoc d ↦{fullShare} f) : sProp 𝕄)
      = bigSep Finset.univ fun c : Fin 2 => bigSep Finset.univ fun s : Fin 16 => task d X p f c s := by
  unfold task piece
  simp only [bigSep_sep']
  rw [shares_deal (vLoc d) X, shares_deal (pLoc d) p, blocks_deal d f]

/-! ## The launch memory -/

variable (m : (ℓ : Loc nD τ sig) → Buf (Elt F) ℓ) (ρ : Dev nD → PrngReg)

abbrev aLoc (d : Dev nD) : Loc nD τ sig := (SparseCore.T d).loc main_arg0
abbrev rLoc (d : Dev nD) : Loc nD τ sig := (SparseCore.T d).loc main_v2

/-- The flat source at the launch contents `m`, the permutation there, and the result the program leaves. -/
def Xm (d : Dev nD) : Buf (Elt F) (vLoc d) := shapeCast S33554432 (m (aLoc d)) shapeCasts_S4x4096x2048_S33554432
abbrev Pm (d : Dev nD) : Buf (Elt F) (pLoc d) := m (pLoc d)
def Rm (d : Dev nD) : Buf (Elt F) (rLoc d) := shapeCast S4x4096x2048 (permAll (Pm m d) (Xm m d)) shapeCasts_S33554432_S4x4096x2048

/-- What the launch carries to the tasks and back. -/
def P : (K (F := F)).Pay (nD := nD) (Val := Elt F) (Name := ℕ) (U := UU) where
  st := fun q d c => match q with
    | 0 => bigSep Finset.univ fun s : Fin ((K (F := F)).nSub 0) => task d (Xm m d) (Pm m d) (m (wLoc d)) (Fin.cast nCore_zero c) (Fin.cast nSub_zero s)
  dn := fun q d c => match q with
    | 0 => bigSep Finset.univ fun s : Fin ((K (F := F)).nSub 0) => task d (Xm m d) (Pm m d) (permAll (Pm m d) (Xm m d)) (Fin.cast nCore_zero c) (Fin.cast nSub_zero s)
  go := fun q d c s => match q with
    | 0 => task d (Xm m d) (Pm m d) (m (wLoc d)) (Fin.cast nCore_zero c) (Fin.cast nSub_zero s)
  td := fun q d c s => match q with
    | 0 => task d (Xm m d) (Pm m d) (permAll (Pm m d) (Xm m d)) (Fin.cast nCore_zero c) (Fin.cast nSub_zero s)
  x := fun _ _ => iprop(emp)

/-- A task's share may be kept in an invariant, -/
instance task_storable (d : Dev nD) (X : Buf (Elt F) (vLoc d)) (p : Buf (Elt F) (pLoc d)) (f : Buf (Elt F) (wLoc d)) (c : Fin 2) (s : Fin 16) :
    BI.Storable (upEmb : UEmb _ 𝕄) (task d X p f c s) := by unfold task piece; infer_instance

/-- and so may all the launch carries. -/
instance P_storable : (P (F := F) m).IsStorable where
  st q d c := match q with
    | 0 => (inferInstance : BI.Storable (upEmb : UEmb _ 𝕄) (bigSep Finset.univ fun s : Fin ((K (F := F)).nSub 0) =>
        task d (Xm m d) (Pm m d) (m (wLoc d)) (Fin.cast nCore_zero c) (Fin.cast nSub_zero s)))
  dn q d c := match q with
    | 0 => (inferInstance : BI.Storable (upEmb : UEmb _ 𝕄) (bigSep Finset.univ fun s : Fin ((K (F := F)).nSub 0) =>
        task d (Xm m d) (Pm m d) (permAll (Pm m d) (Xm m d)) (Fin.cast nCore_zero c) (Fin.cast nSub_zero s)))
  go q d c s := match q with | 0 => task_storable ..
  td q d c s := match q with | 0 => task_storable ..

variable [FloatOps F]

local notation "vV" => (Memref.whole Cert.KernelIdeal.main_v0_scv : Memref Cert.KernelIdeal.sig Kind.scVector Space.hbm Cert.KernelIdeal.S33554432 EltTy.f32)
local notation "pV" => (Memref.whole Cert.KernelIdeal.main_arg1_scv : Memref Cert.KernelIdeal.sig Kind.scVector Space.hbm Cert.KernelIdeal.S2048 EltTy.i32)
local notation "wV" => (Memref.whole Cert.KernelIdeal.main_v1_scv : Memref Cert.KernelIdeal.sig Kind.scVector Space.hbm Cert.KernelIdeal.S33554432 EltTy.f32)
local notation "sI" => (Memref.whole Cert.KernelIdeal.cc0_scratch0 : Memref Cert.KernelIdeal.sig Kind.scVector Space.vmem Cert.KernelIdeal.S2048 EltTy.i32)
local notation "sX" => (Memref.whole Cert.KernelIdeal.cc0_scratch1 : Memref Cert.KernelIdeal.sig Kind.scVector Space.vmem Cert.KernelIdeal.S16384 EltTy.f32)
local notation "sO" => (Memref.whole Cert.KernelIdeal.cc0_scratch2 : Memref Cert.KernelIdeal.sig Kind.scVector Space.vmem Cert.KernelIdeal.S16384 EltTy.f32)

/-- The program of a vector subcore is the kernel's body at its grid point. -/
theorem defs₀_vector (c : Fin τ.nSC) (s : Fin τ.nSub) :
    defs₀ (F := F) (.scVector c s) 0 ()
      = SparseCore.onTile hcore0 hsub0 (fun c s => cc0_run (coordsV c s)
          vV (Memref.isWhole_whole _) pV (Memref.isWhole_whole _) wV (Memref.isWhole_whole _)
          sI (Memref.isWhole_whole _) sX (Memref.isWhole_whole _) sO (Memref.isWhole_whole _) cc0_scoped0 cc0_scoped1 cc0_scoped2) ⟨⟩ c s := rfl

/-- Every task meets its obligation. -/
theorem tileObl (hp : ∀ d, InRange (Pm m d)) (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (hp d) hF O W hO

omit [FloatOps F] in
/-- An assertion is handed on, and whatever comes back is kept as it is. -/
theorem keep (A B : sProp 𝕄) : A ⊢ |={Set.univ}=> iprop(A ∗ (B -∗ B)) := by
  iintro H; imodintro
  isplitl [H]; · iexact H
  iintro H; iexact H

/-- The tasks' shares together are the SparseCore's, before -/
theorem go_eq (d : Dev nD) (c : Fin ((K (F := F)).nCore 0)) :
    (bigSep Finset.univ fun i : Fin ((K (F := F)).nSub 0) => (P m).go 0 d c i) = (P m).st 0 d c := rfl
/-- and after the call. -/
theorem td_eq (d : Dev nD) (c : Fin ((K (F := F)).nCore 0)) :
    (bigSep Finset.univ fun i : Fin ((K (F := F)).nSub 0) => (P m).td 0 d c i) = (P m).dn 0 d c := rfl

/-- A SparseCore's share is its tasks' shares. -/
theorem vecSplit : (K (F := F)).VecSplit' (P m) 0 := by
  intro d c
  rw [go_eq, td_eq]
  exact keep _ _

def u₀ : UU := (initOf (K (F := F)).hsCells (K (F := F)).hsToks, 1)

omit [FloatOps F] in
/-- Nothing, many times, is nothing. -/
theorem bigSep_nothing {I : Type} (s : Finset I) : (bigSep s fun _ => iprop(emp)) = (iprop(emp) : sProp 𝕄) := bigSep_emp_const s

/-- The launch's ghost state holds the handshakes' rounds; this program needs nothing else of it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## @main on the TensorCore -/

abbrev a' : DevRef τ sig := Proc.devRef .tc (main_arg0 : Ref sig .tc)
abbrev p' : DevRef τ sig := Proc.devRef .tc (main_arg1 : Ref sig .tc)
abbrev v' : DevRef τ sig := Proc.devRef .tc (main_v0 : Ref sig .tc)
abbrev w' : DevRef τ sig := Proc.devRef .tc (main_v1 : Ref sig .tc)
abbrev r' : DevRef τ sig := Proc.devRef .tc (main_v2 : Ref sig .tc)

abbrev opIn : HloOp τ sig (Elt F) := StableHlo.reshape main_arg0 main_v0 (rfl : (.f32 : EltTy) = .f32) shapeCasts_S4x4096x2048_S33554432
abbrev opOut : HloOp τ sig (Elt F) := StableHlo.reshape main_v1 main_v2 (rfl : (.f32 : EltTy) = .f32) shapeCasts_S33554432_S4x4096x2048

/-- The TensorCore's five arrays. -/
abbrev S5 : Finset (DevRef τ sig) := {a', p', v', w', r'}

omit [FloatOps F] in
/-- The five arrays held together are each of them held outright. -/
theorem held_S5 (d : Dev nD) (W : Valuation τ sig (Elt F)) :
    (held (T d) S5 W : sProp 𝕄) = iprop((aLoc d ↦{fullShare} W a') ∗ (pLoc d ↦{fullShare} W p') ∗ (vLoc d ↦{fullShare} W v')
      ∗ (wLoc d ↦{fullShare} W w') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

/-- The valuation at the launch, after the source is flattened, and after the call. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) w' (permAll (Pm m d) (Xm m d))
def V3 (d : Dev nD) : Valuation τ sig (Elt F) := (opOut (F := F)).result (V2 m d)

omit [FloatOps F] in
/-- The TensorCore's unscoped buffers at the launch are the five arrays at their launch contents. -/
theorem unscoped_held (d : Dev nD) : (unscopedBufs d (fun b => m ((SparseCore.T d).loc b)) : sProp 𝕄) = held (T d) S5 (V0 m d) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton, held_S5]
  rfl

/-- Once the source is flattened its flat copy holds `Xm`, -/
theorem V1_v (d : Dev nD) : V1 m d v' = Xm m d := by
  refine (StableHlo.reshape_result main_arg0 main_v0 rfl shapeCasts_S4x4096x2048_S33554432 _ _ (V0 m d)).trans ?_
  unfold Xm
  rfl
/-- and every other array is as it was. -/
theorem V1_of_ne (d : Dev nD) {b : DevRef τ sig} (hb : b ≠ v') : V1 m d b = m (d, b) :=
  (opIn (F := F)).result_of_not_mem (V0 m d) (fun h => hb (Finset.mem_singleton.mp h))
/-- The call leaves the permuted flat array in its result, -/
theorem V2_w (d : Dev nD) : V2 m d w' = permAll (Pm m d) (Xm m d) := Function.update_self _ _ _
/-- and every other array as it was. -/
theorem V2_of_ne (d : Dev nD) {b : DevRef τ sig} (hb : b ≠ w') : V2 m d b = V1 m d b := Function.update_of_ne hb _ _
/-- At the end the result holds `Rm`, -/
theorem V3_r (d : Dev nD) : V3 m d r' = Rm m d := by
  refine (StableHlo.reshape_result main_v1 main_v2 rfl shapeCasts_S33554432_S4x4096x2048 _ _ (V2 m d)).trans ?_
  rw [show V2 m d (Proc.devRef .tc (main_v1 : Ref sig .tc)) = _ from V2_w m d]
  unfold Rm
  rfl
/-- and every other array is as the call left it. -/
theorem V3_of_ne (d : Dev nD) {b : DevRef τ sig} (hb : b ≠ r') : V3 m d b = V2 m d b :=
  (opOut (F := F)).result_of_not_mem (V2 m d) (fun h => hb (Finset.mem_singleton.mp h))

/-- What the call is given: source, permutation and result outright; -/
theorem st0_eq (d : Dev nD) :
    (bigSep Finset.univ fun c : Fin ((K (F := F)).nCore 0) => (P m).st 0 d c)
      = iprop((vLoc d ↦{fullShare} Xm m d) ∗ (pLoc d ↦{fullShare} Pm m d) ∗ wLoc d ↦{fullShare} m (wLoc d)) := (deal d _ _ _).symm
/-- and what it gives back, the result permuted. -/
theorem dn0_eq (d : Dev nD) :
    (bigSep Finset.univ fun c : Fin ((K (F := F)).nCore 0) => (P m).dn 0 d c)
      = iprop((vLoc d ↦{fullShare} Xm m d) ∗ (pLoc d ↦{fullShare} Pm m d) ∗ wLoc d ↦{fullShare} permAll (Pm m d) (Xm m d)) := (deal d _ _ _).symm

/-- The five arrays once the source is flattened, once the call has returned, and at the end. -/
theorem heldIn (d : Dev nD) : (held (T d) S5 ((opIn (F := F)).result (V0 m d)) : sProp 𝕄)
    = iprop((aLoc d ↦{fullShare} m (aLoc d)) ∗ (pLoc d ↦{fullShare} Pm m d) ∗ (vLoc d ↦{fullShare} Xm m d)
      ∗ (wLoc d ↦{fullShare} m (wLoc d)) ∗ rLoc d ↦{fullShare} m (rLoc d)) := by
  rw [show (opIn (F := F)).result (V0 m d) = V1 m d from rfl, held_S5, V1_v, V1_of_ne m d (b := a') (by decide), V1_of_ne m d (b := p') (by decide),
    V1_of_ne m d (b := w') (by decide), V1_of_ne m d (b := r') (by decide)]
theorem heldCall (d : Dev nD) : (held (T d) S5 (V2 m d) : sProp 𝕄)
    = iprop((aLoc d ↦{fullShare} m (aLoc d)) ∗ (pLoc d ↦{fullShare} Pm m d) ∗ (vLoc d ↦{fullShare} Xm m d)
      ∗ (wLoc d ↦{fullShare} permAll (Pm m d) (Xm m d)) ∗ rLoc d ↦{fullShare} m (rLoc d)) := by
  rw [held_S5, V2_w, V2_of_ne m d (b := a') (by decide), V2_of_ne m d (b := p') (by decide), V2_of_ne m d (b := v') (by decide),
    V2_of_ne m d (b := r') (by decide), V1_v, V1_of_ne m d (b := a') (by decide), V1_of_ne m d (b := p') (by decide), V1_of_ne m d (b := r') (by decide)]
theorem heldOut (d : Dev nD) : (held (T d) S5 ((opOut (F := F)).result (V2 m d)) : sProp 𝕄)
    = iprop((aLoc d ↦{fullShare} m (aLoc d)) ∗ (pLoc d ↦{fullShare} Pm m d) ∗ (vLoc d ↦{fullShare} Xm m d)
      ∗ (wLoc d ↦{fullShare} permAll (Pm m d) (Xm m d)) ∗ rLoc d ↦{fullShare} Rm m d) := by
  rw [show (opOut (F := F)).result (V2 m d) = V3 m d from rfl, held_S5, V3_r, V3_of_ne m d (b := a') (by decide), V3_of_ne m d (b := p') (by decide),
    V3_of_ne m d (b := v') (by decide), V3_of_ne m d (b := w') (by decide), V2_w, V2_of_ne m d (b := a') (by decide),
    V2_of_ne m d (b := p') (by decide), V2_of_ne m d (b := v') (by decide), V1_v, V1_of_ne m d (b := a') (by decide), V1_of_ne m d (b := p') (by decide)]

/-- Both reshapes touch only the five arrays. -/
theorem hIn : (opIn (F := F)).bufs ⊆ S5 := show ({a', v'} : Finset (DevRef τ sig)) ⊆ S5 by decide
theorem hOut : (opOut (F := F)).bufs ⊆ S5 := show ({w', r'} : Finset (DevRef τ sig)) ⊆ S5 by decide

/-- What @main ends with: both arguments as they were, and the result. -/
abbrev FIN (d : Dev nD) : sProp 𝕄 := iprop((aLoc d ↦{fullShare} m (aLoc d)) ∗ (pLoc d ↦{fullShare} m (pLoc d)) ∗ rLoc d ↦{fullShare} Rm m d)

/-- @main flattens the source, hands the arrays to the tasks, takes them back and shapes the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S5) hIn (V := V0 m d)) $$ [Hb Hheld]
  · isplitl [Hb]; · iexact Hb
    iexact Hheld
  iintro ⟨Hb, Hheld⟩
  rw [wp_ret]; imodintro
  ihave Hh := (Entails.of_eq (heldIn m d)) $$ Hheld
  icases Hh with ⟨Ha, Hp, Hv, Hw, Hr⟩
  iapply ((K (F := F)).wp_run (D (F := F)) 𝒱 (EH := EH) (P := P m) κ d 0) $$ [Hst Ha Hp Hv Hw Hr Hb Hts]
  isplitr; · iexact Hctx
  isplitl [Hst]; · iexact Hst
  isplitl [Hp Hv Hw]
  · rw [st0_eq]
    isplitl [Hv]; · iexact Hv
    isplitl [Hp]; · iexact Hp
    iexact Hw
  iintro ⟨Hst, Hdn⟩
  ihave Hdn' := (Entails.of_eq (dn0_eq m d)) $$ Hdn
  icases Hdn' with ⟨Hv, Hp, Hw⟩
  iapply (wp_hlo_within 𝒱 (SparseCore.T d) none Set.univ (op := opOut) (S := S5) hOut (V := V2 m d)) $$ [Hb Ha Hp Hv Hw Hr]
  · isplitl [Hb]; · iexact Hb
    rw [heldCall]
    isplitl [Ha]; · iexact Ha
    isplitl [Hp]; · iexact Hp
    isplitl [Hv]; · iexact Hv
    isplitl [Hw]; · iexact Hw
    iexact Hr
  iintro ⟨Hb, Hheld⟩
  ihave Hh := (Entails.of_eq (heldOut m d)) $$ Hheld
  icases Hh with ⟨Ha, Hp, -, -, Hr⟩
  rw [wp_ret]; imodintro; imodintro
  isplitl [Hst]; · iexact Hst
  isplitr [Hb Hts]
  · isplitl [Ha]; · iexact Ha
    isplitl [Hp]; · iexact Hp
    iexact Hr
  isplitl [Hb] <;> iassumption

/-- What a final memory is to hold on device `d`. -/
def fq (d : Dev nD) (s' : Phys nD τ sig (Elt F)) : Prop :=
  s'.mem.mem (rLoc d) = Rm m d ∧ s'.mem.mem (aLoc d) = m (aLoc d) ∧ s'.mem.mem (pLoc d) = m (pLoc d)

/-- What @main ends with fixes the final memory. -/
theorem hfin (d : Dev nD) (s' : Phys nD τ sig (Elt F)) : iprop(FIN m d ∗ SI s') ⊢ (⌜fq m d s'⌝ : sProp 𝕄) := by
  have agree : ∀ {ℓ : Loc nD τ sig} {f : Buf (Elt F) ℓ}, iprop(SI s' ∗ ℓ ↦{fullShare} f) ⊢ (iprop(⌜s'.mem.mem ℓ = f⌝ ∗ SI s') : sProp 𝕄) := by
    intro ℓ f
    iintro H
    ihave H := (persistent_entails_right (SI_pointsTo_agree (st := s') (ℓ := ℓ) (I := Finset.univ) (q := fullShare) (f := f))) $$ H
    icases H with ⟨%h, HSI, -⟩
    isplitr
    · ipureintro; exact funext fun i => h i (Finset.mem_univ i)
    · iexact HSI
  iintro ⟨⟨Ha, Hp, Hr⟩, HSI⟩
  ihave H := agree $$ [HSI Ha]
  · isplitl [HSI] <;> iassumption
  icases H with ⟨%ha, HSI⟩
  ihave H := agree $$ [HSI Hp]
  · isplitl [HSI] <;> iassumption
  icases H with ⟨%hp, HSI⟩
  ihave H := agree $$ [HSI Hr]
  · isplitl [HSI] <;> iassumption
  icases H with ⟨%hr, -⟩
  ipureintro; exact ⟨hr, ha, hp⟩

/-! ## The program's run -/

/-- The post of the run: result and arguments on every device, and no semaphore counted up. -/
def QC : PUnit × MemSt nD τ sig (Elt F) → Prop := fun r =>
  (∀ d : Dev nD, r.2.mem (rLoc d) = Rm m d ∧ r.2.mem (aLoc d) = m (aLoc d) ∧ r.2.mem (pLoc d) = m (pLoc d)) ∧ r.2.sem = fun _ => 0

/-- From any memory whose permutation is in range, every weakly fair execution of the program terminates with the permuted
    source as its result, both arguments unchanged and every semaphore at zero. -/
theorem run_main [∀ e, Nonempty (Elt F e)] (hp : ∀ d, InRange (Pm m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hp facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.Value.lean ====
/-
  What the precondition says of a permutation, what the reference computes from one in range, and what the kernel's result is
  element by element: the two are the same array.
-/
module

public import proofs.«01_k».proof.Defs
public import proofs.«01_k».proof.Proof.KILaunch
public import proofs.«01_k».proof.Proof.Gen.Pre_perm_in_range
public import proofs.«01_k».proof.Proof.Gen.ReferenceIdeal.Run
public import Idealize.ShloMosaic.Lib.StableHlo.Predicate
public import Idealize.ShloMosaic.Lib.Pipeline.Value
public import Idealize.ShloMosaic.Lib.Quiescent

@[expose] public section

noncomputable section

namespace Cert.Proof.Value

open Cert.ReferenceIdeal Cert.ReferenceIdeal.Gen
open Idealize.ShloMosaic Idealize.ShloMosaic.TcCoe Idealize.SL.Sem Idealize.ShloMosaic.StableHlo.Predicate

/-! ## A conjunction over an array -/

/-- A conjunction of two bits is one when both are. -/
theorem and_one_iff (a b : BitVec 1) : IntOp.andi a b = 1#1 ↔ a = 1#1 ∧ b = 1#1 := by revert a b; decide

/-- A conjunction over a list is one when its start and every element are. -/
theorem foldl_and_iff {ι : Type} (y : ι → BitVec 1) (l : List ι) (b : BitVec 1) :
    l.foldl (fun r i => IntOp.andi r (y i)) b = 1#1 ↔ b = 1#1 ∧ ∀ i ∈ l, y i = 1#1 := by
  induction l generalizing b with
  | nil => simp
  | cons a l ih => rw [List.foldl_cons, ih, and_one_iff, List.forall_mem_cons, and_assoc]

/-- A reduction by `and` starting from one is one where every element it runs over is one. -/
theorem reduce_and_iff {s t u : Shape} {axes : List (Fin s.rank)} (y : IVec s 1) (h : s.ReducesTo axes t) (hu : 0 < u.numel) (j : t.Idx) :
    Host.reduce IntOp.andi y (constantI u 1 1#1) h hu j = 1#1 ↔ ∀ i, h.drop i = j → y i = 1#1 := by
  rw [Host.reduce_eq_foldl, foldl_and_iff]
  constructor
  · rintro ⟨-, hall⟩ i hi
    exact hall i (List.mem_filter.mpr ⟨List.mem_map.mpr ⟨s.rowMajor i, List.mem_finRange _, s.rowMajor.symm_apply_apply i⟩, by simpa using hi⟩)
  · exact fun hall => ⟨rfl, fun i hi => hall i (by simpa using (List.mem_filter.mp hi).2)⟩

/-! ## The precondition -/

/-- A word that is signed-between 0 and 2048 is below 2048. -/
theorem lt_of_signed (w : BitVec 32) (h₀ : IntOp.cmpi .sge w 0#32 = 1#1) (h₁ : IntOp.cmpi .slt w 2048#32 = 1#1) : w.toNat < 2048 := by
  unfold IntOp.cmpi at h₀ h₁
  rw [ofBool_eq_one_iff] at h₀ h₁
  simp only [BitVec.sle, BitVec.slt, decide_eq_true_eq, BitVec.toInt_eq_toNat_cond] at h₀ h₁
  have hw := w.isLt
  simp at h₀ h₁
  omega

/-- Where the precondition holds every word of the permutation is below 2048. -/
theorem inRange_of_pre {F : FTy → Type} [FloatOps F] (x : FVec F S4x4096x2048 .f32) (p : IVec S2048 32)
    (h : Cert.Pre_perm_in_range.fn (F := F) x p = fun _ => 1#1) (j : S2048.Idx) : (p j).toNat < 2048 := by
  have hall := (reduce_and_iff _ _ _ _).mp (congrFun h (fun a => a.elim0)) j (funext fun a => a.elim0)
  obtain ⟨h₀, h₁⟩ := (and_one_iff _ _).mp hall
  exact lt_of_signed _ h₀ h₁

/-! ## The reference's value -/

/-- The index with these three coordinates. -/
def ix3 (a : Fin 4) (b : Fin 4096) (c : Fin 2048) : S4x4096x2048.Idx := fun | ⟨0, _⟩ => a | ⟨1, _⟩ => b | ⟨2, _⟩ => c

/-- `x` with its columns taken in the order `p`. -/
def taken {α : Type} (x : S4x4096x2048.Idx → α) (p : IVec S2048 32) : S4x4096x2048.Idx → α := fun j =>
  x (ix3 (j 0) (j 1) ⟨(p (Shape.Idx.ofFin (j 2))).toNat % 2048, Nat.mod_lt _ (by decide)⟩)

/-- No word in range is negative, so none is wrapped. -/
theorem nonneg_select (p : IVec S2048 32) (hp : ∀ j, (p j).toNat < 2048) (a : IVec S2048 32) :
    select (cmpi .slt p (broadcastInDim S2048 ![] bcast_S_S2048 (constantI S_ 32 0#32))) a p = p := by
  funext j
  refine if_neg fun h => ?_
  have h := (slt_iff_toNat (a := p j) (b := 0#32) (by have := hp j; omega) (by decide)).mp h
  exact absurd h (Nat.not_lt_zero _)

/-- The index column holds the permutation's words in order. -/
theorem column_apply (p : IVec S2048 32) (i : S2048x1.Idx) :
    broadcastInDim S2048x1 ![0] bcast_S2048_S2048x1_0 p i = p (Shape.Idx.ofFin (i 0)) :=
  broadcastInDim_apply _ _ _ _ _ fun a => by rw [Fin.eq_zero a]; rfl

/-- The index guard of the reference holds everywhere. -/
theorem guard_eq (p : IVec S2048 32) (hp : ∀ j, (p j).toNat < 2048) (k : S2048.Idx) :
    Host.reduce IntOp.andi (andi (cmpi .sge (broadcastInDim S2048x1 ![0] bcast_S2048_S2048x1_0 p) (broadcastInDim S2048x1 ![] bcast_S_S2048x1 (constantI S_ 32 0#32)))
      (cmpi .sle (broadcastInDim S2048x1 ![0] bcast_S2048_S2048x1_0 p)
        (broadcastInDim S2048x1 ![0, 1] bcast_S1x1_S2048x1_0_1 (broadcastInDim S1x1 ![1] bcast_S1_S1x1_1 (constantI S1 32 2047#32)))))
      (constantI S_ 1 1#1) reducesTo_S2048x1_S2048_d1 h_S_ k = 1#1 := by
  refine (reduce_and_iff _ _ _ _).mpr fun i _ => (and_one_iff _ _).mpr ?_
  have hi := hp (Shape.Idx.ofFin (i 0))
  constructor
  · show IntOp.cmpi .sge (broadcastInDim S2048x1 ![0] bcast_S2048_S2048x1_0 p i) 0#32 = 1#1
    rw [column_apply, sge_iff_toNat (by omega) (by decide)]; exact Nat.zero_le _
  · show IntOp.cmpi .sle (broadcastInDim S2048x1 ![0] bcast_S2048_S2048x1_0 p i) 2047#32 = 1#1
    rw [column_apply, sle_iff_toNat (by omega) (by decide)]
    show _ ≤ 2047
    omega

local notation "G" => Cert.ReferenceIdeal.gather_S4x4096x2048_S2048x1_S4x4096x2048_01_2_n_n_2_1_440961

/-- No operand axis is a batching axis. -/
theorem batch_zero (j : S4x4096x2048.Idx) (a : Fin 3) : GatherDims.batchCoord G j a = 0 := GatherDims.batchCoord_eq_zero G j a List.not_mem_nil

/-- The reference's gather takes, at each element, the operand's element of the same row at the indexed column. -/
theorem gather_apply {α : Type} (x : S4x4096x2048.Idx → α) (p : IVec S2048 32) (hp : ∀ j, (p j).toNat < 2048) (j : S4x4096x2048.Idx) :
    Host.gather G x (broadcastInDim S2048x1 ![0] bcast_S2048_S2048x1_0 p) j = taken x p j := by
  have hk := hp (Shape.Idx.ofFin (j 2))
  unfold Host.gather taken
  refine congrArg x (funext fun a => Fin.ext ?_)
  show GatherDims.start G j _ a + GatherDims.batchCoord G j a + GatherDims.offCoord G j a = _
  rw [batch_zero, Nat.add_zero]
  match a with
  | ⟨0, _⟩ => exact Nat.zero_add _
  | ⟨1, _⟩ => exact Nat.zero_add _
  | ⟨2, _⟩ =>
    show GatherDims.start G j _ 2 + GatherDims.offCoord G j 2 = (p (Shape.Idx.ofFin (j 2))).toNat % 2048
    rw [GatherDims.offCoord_eq_zero G j 2 (by decide : (2 : Fin 3) ∉ GatherDims.sKept G), Nat.add_zero]
    show min (broadcastInDim S2048x1 ![0] bcast_S2048_S2048x1_0 p _).toInt.toNat 2047 = (p (Shape.Idx.ofFin (j 2))).toNat % 2048
    rw [column_apply]
    show min (p (Shape.Idx.ofFin (j 2))).toInt.toNat 2047 = _
    rw [toInt_eq_toNat_of_lt (by omega)]
    omega

/-- On a permutation in range the reference's result is `x` with its columns taken in that order. -/
theorem reference_value {F : FTy → Type} [FloatOps F] (x : FVec F S4x4096x2048 .f32) (p : IVec S2048 32) (hp : ∀ j, (p j).toNat < 2048) :
    select (broadcastInDim S4x4096x2048 ![2] bcast_S2048_S4x4096x2048_2 (Host.reduce IntOp.andi (andi (cmpi .sge (broadcastInDim S2048x1 ![0] bcast_S2048_S2048x1_0 (select (cmpi .slt p (broadcastInDim S2048 ![] bcast_S_S2048 (constantI S_ 32 0#32))) (addi p (broadcastInDim S2048 ![] bcast_S_S2048 (constantI S_ 32 2048#32))) p)) (broadcastInDim S2048x1 ![] bcast_S_S2048x1 (constantI S_ 32 0#32))) (cmpi .sle (broadcastInDim S2048x1 ![0] bcast_S2048_S2048x1_0 (select (cmpi .slt p (broadcastInDim S2048 ![] bcast_S_S2048 (constantI S_ 32 0#32))) (addi p (broadcastInDim S2048 ![] bcast_S_S2048 (constantI S_ 32 2048#32))) p)) (broadcastInDim S2048x1 ![0, 1] bcast_S1x1_S2048x1_0_1 (broadcastInDim S1x1 ![1] bcast_S1_S1x1_1 (constantI S1 32 2047#32))))) (constantI S_ 1 1#1) reducesTo_S2048x1_S2048_d1 h_S_))
      (Host.gather G x (broadcastInDim S2048x1 ![0] bcast_S2048_S2048x1_0 (select (cmpi .slt p (broadcastInDim S2048 ![] bcast_S_S2048 (constantI S_ 32 0#32))) (addi p (broadcastInDim S2048 ![] bcast_S_S2048 (constantI S_ 32 2048#32))) p)))
      (broadcastInDim S4x4096x2048 ![] bcast_S_S4x4096x2048 (constant S_ .f32 0x7FC00000#32))
      = taken x p := by
  rw [nonneg_select p hp]
  funext j
  refine (if_pos ?_).trans (gather_apply x p hp j)
  exact guard_eq p hp _

/-! ## The reference's run -/

/-- On a permutation in range the reference ends with `x`'s columns taken in that order, both arguments unchanged and every
    semaphore at zero. -/
theorem reference_run {F : FTy → Type} [FloatOps F] (m : (ℓ : Loc nD τ sig) → Buf (Elt F) ℓ) (ρ : Dev nD → PrngReg)
    (hp : ∀ (c : Dev nD) (j : S2048.Idx), (show BitVec 32 from m ((c.tc : Thread nD τ).loc main_arg1) j).toNat < 2048) :
    θ_run defs (onTc (τ := τ) (main (F := F))) ⟨m, fun _ => 0, ρ⟩ fun r => (∀ c : Dev nD,
      r.2.mem ((c.tc : Thread nD τ).loc main_v0) = taken (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c).1.trans (reference_value _ _ (hp c)), (h c).2⟩, sem_eq_zero_of_no_sems rfl r.2⟩)
    (Cert.ReferenceIdeal.Value.run m ρ)

end Cert.Proof.Value

end
-- ==== Proof.Claims.lean ====
/-
  The kernel's result element by element, and the five claims from the three runs.
-/
module

public import proofs.«01_k».proof.Proof.Value

@[expose] public section

noncomputable section

namespace Cert.Proof

open Idealize.ShloMosaic Idealize.ShloMosaic.TcCoe Idealize.SL.Sem
open Cert.Proof.Value (taken ix3)

/-! ## The kernel's value -/

section KernelValue
open Cert.KernelIdeal Cert.KernelIdeal.Gen Cert.Proof.KernelIdeal

/-- The kernel's result, flat rows permuted and the shape restored, is `x` with its columns taken in the order `p`. -/
theorem kernel_value {F : FTy → Type} (x : S4x4096x2048.Idx → Elt F .f32) (p : S2048.Idx → Elt F .i32) :
    shapeCast S4x4096x2048 (permAll p (shapeCast S33554432 x shapeCasts_S4x4096x2048_S33554432)) shapeCasts_S33554432_S4x4096x2048 = taken x p := by
  funext j
  have h0 : (j 0).val < 4 := (j 0).isLt
  have h1 : (j 1).val < 4096 := (j 1).isLt
  have h2 : (j 2).val < 2048 := (j 2).isLt
  have hn : ((j 0).val * 4096 + (j 1).val) * 2048 + (j 2).val < 33554432 := by omega
  have hc : col p (((j 0).val * 4096 + (j 1).val) * 2048 + (j 2).val) = BitVec.toNat (show BitVec 32 from p (Shape.Idx.ofFin (j 2))) % 2048 := by
    unfold col
    refine congrArg (fun i => BitVec.toNat (show BitVec 32 from p i) % 2048) (flat_ext ?_)
    rw [pos_val]
    show _ = (j 2).val
    omega
  rw [Idealize.ShloMosaic.shapeCast_apply _ _ j (pos _ hn) (by rw [Shape.rowMajor_val_one, Shape.rowMajor_val_three, pos_val]; rfl)]
  unfold permAll taken
  refine Idealize.ShloMosaic.shapeCast_apply _ _ _ _ ?_
  rw [Shape.rowMajor_val_one, Shape.rowMajor_val_three, pos_val, pos_val, hc]
  show ((j 0).val * 4096 + (j 1).val) * 2048 + BitVec.toNat (show BitVec 32 from p (Shape.Idx.ofFin (j 2))) % 2048 = _
  omega

end KernelValue

/-! ## The claims -/

/-- The kernel's frame. -/
theorem frame_Kernel : Cert.quiescent_Kernel := fun m g hpre =>
  (θ_run Cert.Kernel.defs _ _).mono (fun _ h => ⟨fun c => (h.1 c).2, h.2⟩)
    (Kernel.run_main (F := Bits) m g fun d => Value.inRange_of_pre _ _ (hpre d))

/-- The frame of the kernel on idealized floats. -/
theorem frame_KernelIdeal : Cert.quiescent_KernelIdeal := fun m g hpre =>
  (θ_run Cert.KernelIdeal.defs _ _).mono (fun _ h => ⟨fun c => (h.1 c).2, h.2⟩)
    (KernelIdeal.run_main (F := Ideal) m g fun d => Value.inRange_of_pre _ _ (hpre d))

/-- The reference's frame. -/
theorem frame_ReferenceIdeal : Cert.quiescent_ReferenceIdeal := fun m g hpre =>
  (θ_run Cert.ReferenceIdeal.defs _ _).mono (fun _ h => ⟨fun c => (h.1 c).2, h.2⟩)
    (Value.reference_run (F := Ideal) m g fun c => Value.inRange_of_pre _ _ (hpre c))

/-- The kernel and the reference leave the same result. -/
theorem algebraic : Cert.algebraic_KernelIdeal_ReferenceIdeal := by
  intro m g m' g' hpre hargs
  have hp : ∀ (c : Dev Cert.KernelIdeal.nD) (j : Cert.KernelIdeal.S2048.Idx), (show BitVec 32 from m (c.tc.loc Cert.KernelIdeal.main_arg1) j).toNat < 2048 :=
    fun c => Value.inRange_of_pre _ _ (hpre c)
  refine ⟨fun c => taken (m (c.tc.loc Cert.KernelIdeal.main_arg0)) (m (c.tc.loc Cert.KernelIdeal.main_arg1)), ?_, ?_⟩
  · exact (θ_run Cert.KernelIdeal.defs _ _).mono (fun _ h c => ⟨(h.1 c).1.trans (kernel_value _ _), (h.1 c).2⟩)
      (KernelIdeal.run_main (F := Ideal) m g hp)
  · have hp' : ∀ (c : Dev Cert.ReferenceIdeal.nD) (j : Cert.ReferenceIdeal.S2048.Idx),
        (show BitVec 32 from m' (c.tc.loc Cert.ReferenceIdeal.main_arg1) j).toNat < 2048 := fun c => by
      rw [(hargs c).2]; exact hp c
    refine (θ_run Cert.ReferenceIdeal.defs _ _).mono (fun _ h c => ⟨(h.1 c).1.trans ?_, (h.1 c).2⟩)
      (Value.reference_run (F := Ideal) m' g' hp')
    rw [(hargs c).1, (hargs c).2]

end Cert.Proof

end
-- ==== Proof.lean ====
/-
  The certificate: the three frames, the idealization and the equality of the kernel's result with the reference's, put together.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_perm_in_range
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim of the certificate holds. -/
theorem claim : Cert.Claim := ⟨Cert.Kernel.Gen.facts, Cert.KernelIdeal.Gen.facts, Cert.ReferenceIdeal.Gen.facts, Cert.Pre_perm_in_range.Gen.facts,
  frame_Kernel, frame_KernelIdeal, frame_ReferenceIdeal, trivial, algebraic⟩

end Cert.Proof

end
